-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2000000x1 : Shape := ⟨2, ![2000000, 1]⟩
abbrev S16 : Shape := ⟨1, ![16]⟩
abbrev S1 : Shape := ⟨1, ![1]⟩
abbrev S1x1 : Shape := ⟨2, ![1, 1]⟩
abbrev S_ : Shape := ⟨0, ![]⟩
abbrev S15 : Shape := ⟨1, ![15]⟩
abbrev S32 : Shape := ⟨1, ![32]⟩
abbrev S2000000x32 : Shape := ⟨2, ![2000000, 32]⟩
abbrev S2000000x34 : Shape := ⟨2, ![2000000, 34]⟩

class Facts : Prop where
  slices_S16_S1_0 : S16.Slices ![0] S1
  slices_S16_S1_1 : S16.Slices ![1] S1
  slices_S16_S1_15 : S16.Slices ![15] S1
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  bcast_S_S2000000x1 : S_.BroadcastsInDim S2000000x1 (![] : Fin 0 → Fin S2000000x1.rank)
  bcast_S_S1 : S_.BroadcastsInDim S1 (![] : Fin 0 → Fin S1.rank)
  slices_S16_S15_1 : S16.Slices ![1] S15
  slices_S16_S15_0 : S16.Slices ![0] S15
  bcast_S_S16 : S_.BroadcastsInDim S16 (![] : Fin 0 → Fin S16.rank)
  concatenates_S15_S1_S16_S32_d0 : Shape.Concatenates [S15, S1, S16] S32 0
  bcast_S32_S2000000x32_1 : S32.BroadcastsInDim S2000000x32 (![1] : Fin 1 → Fin S2000000x32.rank)
  concatenates_S2000000x32_S2000000x1_S2000000x1_S2000000x34_d1 : Shape.Concatenates [S2000000x32, S2000000x1, S2000000x1] S2000000x34 1

variable [Facts]

def fn_part1 {F : FTy → Type} [FloatOps F] (main_arg1 : FVec F S16 .f32) (main_v2 : FVec F S1 .f32) (main_v11 : IVec S2000000x1 1) (main_v19 : FVec F S2000000x1 .f32) (main_v20 : FVec F S2000000x1 .f32) : IVec S2000000x34 1 :=
  let main_v21 : IVec S2000000x1 1 := cmpf .oge main_v19 main_v20
  let main_v22 : FVec F S15 .f32 := (extractStridedSlice S15 ![1] · slices_S16_S15_1) main_arg1
  let main_v23 : FVec F S15 .f32 := (extractStridedSlice S15 ![0] · slices_S16_S15_0) main_arg1
  let main_v24 : IVec S15 1 := cmpf .ogt main_v22 main_v23
  let main_cst_2 : FVec F S_ .f32 := constant S_ .f32 0xBF800000#32
  let main_v25 : FVec F S1 .f32 := broadcastInDim S1 ![] bcast_S_S1 main_cst_2
  let main_v26 : IVec S1 1 := cmpf .ogt main_v2 main_v25
  let main_v27 : FVec F S16 .f32 := Host.absf main_arg1
  let main_cst_3 : FVec F S_ .f32 := constant S_ .f32 0x7F800000#32
  let main_v28 : FVec F S16 .f32 := broadcastInDim S16 ![] bcast_S_S16 main_cst_3
  let main_v29 : IVec S16 1 := cmpf .olt main_v27 main_v28
  let main_v30 : IVec S32 1 := concatenate S32 0 [⟨S15, main_v24⟩, ⟨S1, main_v26⟩, ⟨S16, main_v29⟩] concatenates_S15_S1_S16_S32_d0
  let main_v31 : IVec S2000000x32 1 := broadcastInDim S2000000x32 ![1] bcast_S32_S2000000x32_1 main_v30
  let main_v32 : IVec S2000000x34 1 := concatenate S2000000x34 1 [⟨S2000000x32, main_v31⟩, ⟨S2000000x1, main_v11⟩, ⟨S2000000x1, main_v21⟩] concatenates_S2000000x32_S2000000x1_S2000000x1_S2000000x34_d1
  main_v32

def fn {F : FTy → Type} [FloatOps F] (main_arg0 : FVec F S2000000x1 .f32) (main_arg1 : FVec F S16 .f32) : IVec S2000000x34 1 :=
  let main_v0 : FVec F S1 .f32 := (extractStridedSlice S1 ![0] · slices_S16_S1_0) main_arg1
  let main_v1 : FVec F S1 .f32 := (extractStridedSlice S1 ![1] · slices_S16_S1_1) main_arg1
  let main_v2 : FVec F S1 .f32 := (extractStridedSlice S1 ![15] · slices_S16_S1_15) main_arg1
  let main_v3 : FVec F S1x1 .f32 := broadcastInDim S1x1 ![1] bcast_S1_S1x1_1 main_v0
  let main_v4 : FVec F S2000000x1 .f32 := broadcastInDim S2000000x1 ![0, 1] bcast_S1x1_S2000000x1_0_1 main_v3
  let main_v5 : FVec F S2000000x1 .f32 := subf main_arg0 main_v4
  let main_v6 : FVec F S1 .f32 := subf main_v1 main_v0
  let main_v7 : FVec F S1x1 .f32 := broadcastInDim S1x1 ![1] bcast_S1_S1x1_1 main_v6
  let main_v8 : FVec F S2000000x1 .f32 := broadcastInDim S2000000x1 ![0, 1] bcast_S1x1_S2000000x1_0_1 main_v7
  let main_v9 : FVec F S2000000x1 .f32 := Host.divf main_v5 main_v8
  let main_cst : FVec F S_ .f32 := constant S_ .f32 0xFF61B1E6#32
  let main_v10 : FVec F S2000000x1 .f32 := broadcastInDim S2000000x1 ![] bcast_S_S2000000x1 main_cst
  let main_v11 : IVec S2000000x1 1 := cmpf .oge main_v9 main_v10
  let main_v12 : FVec F S1x1 .f32 := broadcastInDim S1x1 ![1] bcast_S1_S1x1_1 main_v2
  let main_v13 : FVec F S2000000x1 .f32 := broadcastInDim S2000000x1 ![0, 1] bcast_S1x1_S2000000x1_0_1 main_v12
  let main_v14 : FVec F S2000000x1 .f32 := subf main_arg0 main_v13
  let main_cst_0 : FVec F S_ .f32 := constant S_ .f32 0xBF800000#32
  let main_v15 : FVec F S1 .f32 := broadcastInDim S1 ![] bcast_S_S1 main_cst_0
  let main_v16 : FVec F S1 .f32 := subf main_v15 main_v2
  let main_v17 : FVec F S1x1 .f32 := broadcastInDim S1x1 ![1] bcast_S1_S1x1_1 main_v16
  let main_v18 : FVec F S2000000x1 .f32 := broadcastInDim S2000000x1 ![0, 1] bcast_S1x1_S2000000x1_0_1 main_v17
  let main_v19 : FVec F S2000000x1 .f32 := Host.divf main_v14 main_v18
  let main_cst_1 : FVec F S_ .f32 := constant S_ .f32 0xFF61B1E6#32
  let main_v20 : FVec F S2000000x1 .f32 := broadcastInDim S2000000x1 ![] bcast_S_S2000000x1 main_cst_1
  fn_part1 (F := F) main_arg1 main_v2 main_v11 main_v19 main_v20
-- ==== Kernel.lean ====
abbrev S2000000x1 : Shape := ⟨2, ![2000000, 1]⟩
abbrev S16 : Shape := ⟨1, ![16]⟩
abbrev S1 : Shape := ⟨1, ![1]⟩
abbrev S15625x128 : Shape := ⟨2, ![15625, 128]⟩
abbrev S15 : Shape := ⟨1, ![15]⟩
abbrev S_ : Shape := ⟨0, ![]⟩
abbrev S2x1x8x1 : Shape := ⟨4, ![2, 1, 8, 1]⟩
abbrev S2x1x8x128 : Shape := ⟨4, ![2, 1, 8, 128]⟩
abbrev S2x15625x8x128 : Shape := ⟨4, ![2, 15625, 8, 128]⟩
abbrev S800x128 : Shape := ⟨2, ![800, 128]⟩
abbrev S2x800x8x128 : Shape := ⟨4, ![2, 800, 8, 128]⟩
abbrev S1x800x1x128 : Shape := ⟨4, ![1, 800, 1, 128]⟩
abbrev S15625x128x2x8 : Shape := ⟨4, ![15625, 128, 2, 8]⟩
abbrev S2000000x16 : Shape := ⟨2, ![2000000, 16]⟩
abbrev S2000000x1x16 : Shape := ⟨3, ![2000000, 1, 16]⟩

abbrev nBuf : Space → Nat
  | .hbm => 47
  | .vmem => 8
  | .smem => 0
  | _ => 0

abbrev bufTy : (tb : Table) → Fin (tcTables nBuf tb) → BufTy
  | .hbm, ⟨0, _⟩ => ⟨S2000000x1, .f32⟩
  | .hbm, ⟨1, _⟩ => ⟨S16, .f32⟩
  | .hbm, ⟨2, _⟩ => ⟨S1, .f32⟩
  | .hbm, ⟨3, _⟩ => ⟨S15625x128, .f32⟩
  | .hbm, ⟨4, _⟩ => ⟨S15, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .i32⟩
  | .hbm, ⟨11, _⟩ => ⟨S_, .i32⟩
  | .hbm, ⟨12, _⟩ => ⟨S16, .i32⟩
  | .hbm, ⟨13, _⟩ => ⟨S16, .i1⟩
  | .hbm, ⟨14, _⟩ => ⟨S16, .i32⟩
  | .hbm, ⟨15, _⟩ => ⟨S_, .i32⟩
  | .hbm, ⟨16, _⟩ => ⟨S16, .i32⟩
  | .hbm, ⟨17, _⟩ => ⟨S16, .i1⟩
  | .hbm, ⟨18, _⟩ => ⟨S16, .i1⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S16, .f32⟩
  | .hbm, ⟨25, _⟩ => ⟨S16, .i32⟩
  | .hbm, ⟨26, _⟩ => ⟨S_, .i32⟩
  | .hbm, ⟨27, _⟩ => ⟨S16, .i32⟩
  | .hbm, ⟨28, _⟩ => ⟨S16, .i1⟩
  | .hbm, ⟨29, _⟩ => ⟨S_, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S16, .f32⟩
  | .hbm, ⟨34, _⟩ => ⟨S16, .f32⟩
  | .hbm, ⟨35, _⟩ => ⟨S2x1x8x1, .f32⟩
  | .hbm, ⟨36, _⟩ => ⟨S2x1x8x128, .f32⟩
  | .hbm, ⟨37, _⟩ => ⟨S2x1x8x1, .f32⟩
  | .hbm, ⟨38, _⟩ => ⟨S2x1x8x128, .f32⟩
  | .hbm, ⟨39, _⟩ => ⟨S2x1x8x1, .f32⟩
  | .hbm, ⟨40, _⟩ => ⟨S2x1x8x128, .f32⟩
  | .hbm, ⟨41, _⟩ => ⟨S2x1x8x1, .f32⟩
  | .hbm, ⟨42, _⟩ => ⟨S2x1x8x128, .f32⟩
  | .hbm, ⟨43, _⟩ => ⟨S2x15625x8x128, .f32⟩
  | .hbm, ⟨44, _⟩ => ⟨S15625x128x2x8, .f32⟩
  | .hbm, ⟨45, _⟩ => ⟨S2000000x16, .f32⟩
  | .hbm, ⟨46, _⟩ => ⟨S2000000x1x16, .f32⟩
  | .local _ .vmem, ⟨0, _⟩ => ⟨S800x128, .f32⟩
  | .local _ .vmem, ⟨1, _⟩ => ⟨S800x128, .f32⟩
  | .local _ .vmem, ⟨2, _⟩ => ⟨S2x1x8x128, .f32⟩
  | .local _ .vmem, ⟨3, _⟩ => ⟨S2x1x8x128, .f32⟩
  | .local _ .vmem, ⟨4, _⟩ => ⟨S2x1x8x128, .f32⟩
  | .local _ .vmem, ⟨5, _⟩ => ⟨S2x1x8x128, .f32⟩
  | .local _ .vmem, ⟨6, _⟩ => ⟨S2x800x8x128, .f32⟩
  | .local _ .vmem, ⟨7, _⟩ => ⟨S2x800x8x128, .f32⟩
  | _, _ => ⟨S2000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_cst_6 : Ref sig .tc := ⟨.hbm, 30, rfl⟩
abbrev main_call1_v0 : Ref sig .tc := ⟨.hbm, 31, rfl⟩
abbrev main_call1_v1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x800x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2000000x1 : Shape := ⟨2, ![2000000, 1]⟩
abbrev S16 : Shape := ⟨1, ![16]⟩
abbrev S1 : Shape := ⟨1, ![1]⟩
abbrev S17 : Shape := ⟨1, ![17]⟩
abbrev S_ : Shape := ⟨0, ![]⟩
abbrev S16x1 : Shape := ⟨2, ![16, 1]⟩
abbrev S1x16 : Shape := ⟨2, ![1, 16]⟩
abbrev S2000000x16 : Shape := ⟨2, ![2000000, 16]⟩
abbrev S2000000x1x16 : Shape := ⟨3, ![2000000, 1, 16]⟩

abbrev nBuf : Space → Nat
  | .hbm => 66
  | .vmem => 0
  | .smem => 0
  | _ => 0

abbrev bufTy : (tb : Table) → Fin (tcTables nBuf tb) → BufTy
  | .hbm, ⟨0, _⟩ => ⟨S2000000x1, .f32⟩
  | .hbm, ⟨1, _⟩ => ⟨S16, .f32⟩
  | .hbm, ⟨2, _⟩ => ⟨S1, .f32⟩
  | .hbm, ⟨3, _⟩ => ⟨S17, .f32⟩
  | .hbm, ⟨4, _⟩ => ⟨S16, .i32⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S_, .i32⟩
  | .hbm, ⟨12, _⟩ => ⟨S16, .i32⟩
  | .hbm, ⟨13, _⟩ => ⟨S16, .i1⟩
  | .hbm, ⟨14, _⟩ => ⟨S_, .i32⟩
  | .hbm, ⟨15, _⟩ => ⟨S16, .i32⟩
  | .hbm, ⟨16, _⟩ => ⟨S16, .i32⟩
  | .hbm, ⟨17, _⟩ => ⟨S16, .i32⟩
  | .hbm, ⟨18, _⟩ => ⟨S16x1, .i32⟩
  | .hbm, ⟨19, _⟩ => ⟨S16, .f32⟩
  | .hbm, ⟨20, _⟩ => ⟨S_, .i32⟩
  | .hbm, ⟨21, _⟩ => ⟨S16, .i32⟩
  | .hbm, ⟨22, _⟩ => ⟨S16, .i1⟩
  | .hbm, ⟨23, _⟩ => ⟨S_, .i32⟩
  | .hbm, ⟨24, _⟩ => ⟨S16, .i32⟩
  | .hbm, ⟨25, _⟩ => ⟨S16, .i32⟩
  | .hbm, ⟨26, _⟩ => ⟨S16, .i32⟩
  | .hbm, ⟨27, _⟩ => ⟨S16x1, .i32⟩
  | .hbm, ⟨28, _⟩ => ⟨S16, .f32⟩
  | .hbm, ⟨29, _⟩ => ⟨S1x16, .f32⟩
  | .hbm, ⟨30, _⟩ => ⟨S2000000x16, .f32⟩
  | .hbm, ⟨31, _⟩ => ⟨S2000000x16, .f32⟩
  | .hbm, ⟨32, _⟩ => ⟨S2000000x16, .i1⟩
  | .hbm, ⟨33, _⟩ => ⟨S1x16, .i32⟩
  | .hbm, ⟨34, _⟩ => ⟨S_, .i32⟩
  | .hbm, ⟨35, _⟩ => ⟨S1x16, .i32⟩
  | .hbm, ⟨36, _⟩ => ⟨S1x16, .i1⟩
  | .hbm, ⟨37, _⟩ => ⟨S2000000x16, .i1⟩
  | .hbm, ⟨38, _⟩ => ⟨S2000000x16, .i1⟩
  | .hbm, ⟨39, _⟩ => ⟨S1x16, .f32⟩
  | .hbm, ⟨40, _⟩ => ⟨S2000000x16, .f32⟩
  | .hbm, ⟨41, _⟩ => ⟨S2000000x16, .f32⟩
  | .hbm, ⟨42, _⟩ => ⟨S2000000x16, .i1⟩
  | .hbm, ⟨43, _⟩ => ⟨S1x16, .i32⟩
  | .hbm, ⟨44, _⟩ => ⟨S_, .i32⟩
  | .hbm, ⟨45, _⟩ => ⟨S1x16, .i32⟩
  | .hbm, ⟨46, _⟩ => ⟨S1x16, .i1⟩
  | .hbm, ⟨47, _⟩ => ⟨S2000000x16, .i1⟩
  | .hbm, ⟨48, _⟩ => ⟨S2000000x16, .i1⟩
  | .hbm, ⟨49, _⟩ => ⟨S1x16, .f32⟩
  | .hbm, ⟨50, _⟩ => ⟨S2000000x16, .f32⟩
  | .hbm, ⟨51, _⟩ => ⟨S2000000x16, .f32⟩
  | .hbm, ⟨52, _⟩ => ⟨S2000000x16, .f32⟩
  | .hbm, ⟨53, _⟩ => ⟨S1x16, .f32⟩
  | .hbm, ⟨54, _⟩ => ⟨S1x16, .f32⟩
  | .hbm, ⟨55, _⟩ => ⟨S1x16, .f32⟩
  | .hbm, ⟨56, _⟩ => ⟨S2000000x16, .f32⟩
  | .hbm, ⟨57, _⟩ => ⟨S2000000x16, .f32⟩
  | .hbm, ⟨58, _⟩ => ⟨S2000000x16, .i1⟩
  | .hbm, ⟨59, _⟩ => ⟨S_, .f32⟩
  | .hbm, ⟨60, _⟩ => ⟨S2000000x16, .f32⟩
  | .hbm, ⟨61, _⟩ => ⟨S_, .f32⟩
  | .hbm, ⟨62, _⟩ => ⟨S2000000x16, .f32⟩
  | .hbm, ⟨63, _⟩ => ⟨S2000000x16, .f32⟩
  | .hbm, ⟨64, _⟩ => ⟨S2000000x16, .f32⟩
  | .hbm, ⟨65, _⟩ => ⟨S2000000x1x16, .f32⟩
  | _, _ => ⟨S2000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_c_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩

abbrev nD : Nat := 1
abbrev τ : Topo := Topo.v7x

variable {F : FTy → Type} [FloatOps F]
-- ==== Proof.Body.lean ====
/- What one grid point of the encoder's kernel does, for any floats: the staging buffers it is handed, the block it
   stores, and the library's statement about the body. -/
module

public import proofs.«01_k».proof.Proof.Gen.KernelIdeal.Skeleton
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Encode

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ)

/-! ## The block a point stores -/

/-- The block depends on the rows of `x` one by one: where two staging blocks of `x` agree at a row and a lane, the
    stored blocks agree at that row and lane in every bin. -/
theorem block_congr (x x' : Vec F S800x128 .f32) (a b lb ub : Vec F S2x1x8x128 .f32) (j : S2x800x8x128.Idx)
    (h : x (ix2 (j 1) (j 3)) = x' (ix2 (j 1) (j 3))) :
    k0_pay1 x a b lb ub j = k0_pay1 x' a b lb ub j := by
  pointwise [k0_pay1]
  rw [h]

/-! ## The body on whatever buffers it is handed -/

/-- A load of a whole buffer reads what the buffer holds. -/
theorem load_whole {sp : Space} {s : Shape} {e : EltTy} (v : Memref sig .tc sp s e) {off : Fin s.rank → Nat}
    (h : off = fun _ => 0) (inb : ∀ a, off a + s.size a ≤ s.size a) (f : v.view.ty.Contents (Elt F)) :
    v.view.readAt (Elt F) (Rect.unit off s.size inb).toLoadRect f = v.view.read (Elt F) f :=
  View.ld_unit_zero h inb _

/-- A store over a whole buffer leaves what was stored. -/
theorem store_whole {sp : Space} {s : Shape} {e : EltTy} (v : Memref sig .tc sp s e) {off : Fin s.rank → Nat}
    (h : off = fun _ => 0) (inb : ∀ a, off a + s.size a ≤ s.size a) (f : v.view.ty.Contents (Elt F)) (w : s.Idx → Elt F e) :
    v.view.read (Elt F) (v.view.writes (Elt F) f [⟨Rect.unit off s.size inb, w⟩]) = w := by
  subst h; exact View.read_writes_whole _ _ _

/-- The body reads the five input buffers whole and stores the block made of them over the whole of the sixth. -/
theorem sound_body (c : Dev nD) (E : Set ℕ) (i : grid0.Coords)
    (M1 : Memref sig .tc .vmem S800x128 .f32) (h1 : M1.IsWhole) (M2 : Memref sig .tc .vmem S2x1x8x128 .f32) (h2 : M2.IsWhole)
    (M3 : Memref sig .tc .vmem S2x1x8x128 .f32) (h3 : M3.IsWhole) (M4 : Memref sig .tc .vmem S2x1x8x128 .f32) (h4 : M4.IsWhole)
    (M5 : Memref sig .tc .vmem S2x1x8x128 .f32) (h5 : M5.IsWhole) (M6 : Memref sig .tc .vmem S2x800x8x128 .f32) (h6 : M6.IsWhole)
    (x : Vec F S800x128 .f32) (a b lb ub : Vec F S2x1x8x128 .f32) (o : Vec F S2x800x8x128 .f32) (K : PUnit → sProp 𝕄) :
    iprop((owns (c : Thread nD τ) M1 fullShare x ∗ owns (c : Thread nD τ) M2 fullShare a ∗ owns (c : Thread nD τ) M3 fullShare b
            ∗ owns (c : Thread nD τ) M4 fullShare lb ∗ owns (c : Thread nD τ) M5 fullShare ub ∗ owns (c : Thread nD τ) M6 fullShare o)
          ∗ (iprop(owns (c : Thread nD τ) M1 fullShare x ∗ owns (c : Thread nD τ) M2 fullShare a ∗ owns (c : Thread nD τ) M3 fullShare b
            ∗ owns (c : Thread nD τ) M4 fullShare lb ∗ owns (c : Thread nD τ) M5 fullShare ub
            ∗ owns (c : Thread nD τ) M6 fullShare (k0_pay1 x a b lb ub)) -∗ K ⟨⟩))
      ⊢ wp frame (wpE (defs₀ (F := F)) Variants.none c none) E (cc0__ple_body i M1 h1 M2 h2 M3 h3 M4 h4 M5 h5 M6 h6) K := by
  have hz2 : (![0, 0] : Fin 2 → Nat) = fun _ => 0 := by decide
  have hz4 : (![0, 0, 0, 0] : Fin 4 → Nat) = fun _ => 0 := by decide
  rw [cc0__ple_body_eq_skeleton]
  unfold owns cc0__ple_body_skel
  iintro ⟨⟨⟨%f1, %e1, H1⟩, ⟨%f2, %e2, H2⟩, ⟨%f3, %e3, H3⟩, ⟨%f4, %e4, H4⟩, ⟨%f5, %e5, H5⟩, ⟨%f6, %e6, H6⟩⟩, Hk⟩
  sl_exec
  sl_step
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  iexists _
  isplitr
  swap
  · iexact H6
  · ipureintro
    rw [store_whole M6 hz4, load_whole M1 hz2, load_whole M2 hz4, load_whole M3 hz4, load_whole M4 hz4,
      load_whole M5 hz4, e1, e2, e3, e4, e5]

/-! ## The proof data and the library's obligation -/

/-- The staging block of `x` at a point: its rows inside the array, and a word nothing reads on the rows past its end. -/
def xStage (c : Dev nD) (t : Fin cfg0.N) : Vec F S800x128 .f32 :=
  win0_0.fill (grid0.coords t) (fun _ => Scalar.ofBits .f32 0#32) (iblk m c 0 t)

/-- What the staging buffers hold after the body at a point: each input's block, and the block stored. The arrays are
    held in full, at their contents when the grid is entered. -/
def dats (_ : Fin 1) (c : Dev nD) : Dat τ (Elt F) Unit ℕ (UR sig nD τ) ℕ cfg0 c where
  A w := V m c (Pipeline.arrRef spec0 w)
  after w t := match w with
    | ⟨0, _⟩ => xStage m c t
    | ⟨1, _⟩ => iblk m c 1 t
    | ⟨2, _⟩ => iblk m c 2 t
    | ⟨3, _⟩ => iblk m c 3 t
    | ⟨4, _⟩ => iblk m c 4 t
    | ⟨5, _⟩ => k0_pay1 (xStage m c t) (iblk m c 1 t) (iblk m c 2 t) (iblk m c 3 t) (iblk m c 4 t)
  Φ _ := Pipeline.ΦA spec0 c
  q _ := fullShare
  owed _ := 0

/-- The body finds the buffer of `x` just fetched: the rows inside the array, and anything past its end. -/
theorem before_x (c : Dev nD) (t : Fin cfg0.N) (d) :
    (dats m 0 c).before 0 t d = win0_0.fill (grid0.coords t) d (iblk m c 0 t) := by
  unfold Dat.before; rw [if_pos (fetch0_0 t)]; rfl

/-- The arrays are held at their contents when the grid is entered. -/
theorem dats_A (c : Dev nD) (w : Fin cfg0.W) : (dats m 0 c).A w = V m c (Pipeline.arrRef spec0 w) := rfl

/-- The body leaves the four tables' buffers as it found them: at the table. -/
theorem after_a (c : Dev nD) (t : Fin cfg0.N) : (dats m 0 c).after 1 t = iblk m c 1 t := rfl
theorem after_b (c : Dev nD) (t : Fin cfg0.N) : (dats m 0 c).after 2 t = iblk m c 2 t := rfl
theorem after_lb (c : Dev nD) (t : Fin cfg0.N) : (dats m 0 c).after 3 t = iblk m c 3 t := rfl
theorem after_ub (c : Dev nD) (t : Fin cfg0.N) : (dats m 0 c).after 4 t = iblk m c 4 t := rfl

/-- The body finds each table's buffer at the table. -/
theorem before_a (c : Dev nD) (t : Fin cfg0.N) (d) : (dats m 0 c).before 1 t d = iblk m c 1 t :=
  before0_1_of m (dats m 0 c) (dats_A m c 1) (fun t => after_a m c t) t d
theorem before_b (c : Dev nD) (t : Fin cfg0.N) (d) : (dats m 0 c).before 2 t d = iblk m c 2 t :=
  before0_2_of m (dats m 0 c) (dats_A m c 2) (fun t => after_b m c t) t d
theorem before_lb (c : Dev nD) (t : Fin cfg0.N) (d) : (dats m 0 c).before 3 t d = iblk m c 3 t :=
  before0_3_of m (dats m 0 c) (dats_A m c 3) (fun t => after_lb m c t) t d
theorem before_ub (c : Dev nD) (t : Fin cfg0.N) (d) : (dats m 0 c).before 4 t d = iblk m c 4 t :=
  before0_4_of m (dats m 0 c) (dats_A m c 4) (fun t => after_ub m c t) t d

/-- A staged block and its row inside the array: index `j` of the stored block is inside the array exactly when row `j 1`
    of the block of `x` is. -/
theorem block_cut (c : Dev nD) (t : Fin cfg0.N) (d : Vec F S800x128 .f32) (a b lb ub : Vec F S2x1x8x128 .f32) :
    win0_5.cut (grid0.coords t) (k0_pay1 (win0_0.fill (grid0.coords t) d (iblk m c 0 t)) a b lb ub)
      = win0_5.cut (grid0.coords t) (k0_pay1 (xStage m c t) a b lb ub) := by
  funext j
  unfold Window.cut
  apply block_congr
  have hm : win0_0.moved (grid0.coords t) (ix2 (win0_5.xinj (grid0.coords t) j 1) (win0_5.xinj (grid0.coords t) j 3)) = true := by
    rw [Window.moved_iff]
    intro a
    fin_cases a
    · exact (j 1).isLt
    · exact (j 3).isLt
  unfold xStage Window.fill
  rw [dif_pos hm, dif_pos hm]

set_option maxHeartbeats 2000000 in
/-- The library's obligation: at every point the body, handed the fetched blocks, leaves the stored block. -/
theorem body_obligation (c : Dev nD) : BodyObligationLoose (dats m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before_x m c t d0, before_a m c t d1, before_b m c t d2, before_lb m c t d3, before_ub m c t d4]

  iapply (sound_body (F := F) c Set.univ (grid0.coords t) (st0_0 t) (hstage0_0 _) (st0_1 t) (hstage0_1 _) (st0_2 t)
    (hstage0_2 _) (st0_3 t) (hstage0_3 _) (st0_4 t) (hstage0_4 _) (st0_5 t) (hstage0_5 _)
    (win0_0.fill (grid0.coords t) d0 (iblk m c 0 t)) (iblk m c 1 t) (iblk m c 2 t) (iblk m c 3 t) (iblk m c 4 t) _ _)

  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) (xStage m c t)))
    rw [show win0_0.cut (grid0.coords t) (xStage m c t) = iblk m c 0 t from win0_0.cut_fill _ _ _]
  isplitl [H1]; · iexact H1
  isplitl [H2]; · iexact H2
  isplitl [H3]; · iexact H3
  isplitl [H4]; · iexact H4
  iexists k0_pay1 (win0_0.fill (grid0.coords t) d0 (iblk m c 0 t)) (iblk m c 1 t) (iblk m c 2 t) (iblk m c 3 t) (iblk m c 4 t)
  change _ ⊢ owns (c : Thread nD τ) (stage0_5 (cfg0.slots t 5)) fullShare
    (win0_5.fill (α := Elt F .f32) (grid0.coords t) _ (win0_5.cut (α := Elt F .f32) (grid0.coords t)
      (k0_pay1 (xStage m c t) (iblk m c 1 t) (iblk m c 2 t) (iblk m c 3 t) (iblk m c 4 t))))
  rw [Window.fill_congr_cut win0_5 _ (block_cut m c t d0 _ _ _ _)]

/-! ## The run -/

-- the launch theorem's implicit arguments are found by unifying its conclusion with this one
set_option backward.isDefEq.respectTransparency.types false in
/-- From any memory whose counters are zero, every fair execution of the program terminates; the arrays end at what the
    library computes from the proof data, every buffer the lines after the grid write at what they write, and every
    counter at zero. -/
theorem run_main (ρ : Dev nD → PrngReg) :
    θ_run defs (onTc (τ := τ) (main (F := F))) (s₀ m ρ) (fun r =>
      Pipeline.FramePost cfgs (dats m) 0 (Pipeline.afterTail₀ cfgs (dats m) 0 (V0 m) [hostOps1]) r ∧ r.2.sem = fun _ => 0) :=
  Pipeline.θ_run_frame_around cfgs (dats m) 0 launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := fun c w => dats_A m c w) (hΦ := fun _ _ => rfl)
    (Q' := fun r => Pipeline.FramePost cfgs (dats m) 0 (Pipeline.afterTail₀ cfgs (dats m) 0 (V0 m) [hostOps1]) r ∧ r.2.sem = fun _ => 0)
    (hQ' := fun _ h => h)

end Cert.Encode

end
-- ==== Proof.Frames.lean ====
/- The frame claims of the two printings of the kernel: proved once for any floats, on the printing read over the extended
   reals, and carried to the one read over bit patterns, whose text is the same. -/
module

public import proofs.«01_k».proof.Proof.Body
public import proofs.«01_k».proof.Defs
public import proofs.«01_k».proof.Proof.Gen.Kernel

@[expose] public section

noncomputable section

namespace Cert.Encode

open Idealize.ShloMosaic Idealize.ShloMosaic.TcCoe Idealize.SL.Sem

variable {F : FTy → Type} [FloatOps F]

section Run
open Cert.KernelIdeal Cert.KernelIdeal.Gen

/-- The kernel terminates, leaves both arguments as they were and every semaphore counter at zero. -/
theorem kernel_frame (m : (ℓ : Loc nD τ sig) → Buf (Elt F) ℓ) (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (Pipeline.mem_restRefs_of main_arg0 (by decide) (by decide))).trans (W_main_arg0 m (dats m) c),
     ((h.1 c).2 main_arg1 (Pipeline.mem_restRefs_of main_arg1 (by decide) (by decide))).trans (W_main_arg1 m (dats m) c)⟩, h.2⟩)
    (run_main m g)

end Run

/-- The two printings have one body table: their label's row is the same function of the point and the slots, … -/
theorem bodies_eq : @Cert.Kernel.defs₀ F _ Cert.Kernel.Gen.facts = @Cert.KernelIdeal.defs₀ F _ Cert.KernelIdeal.Gen.facts := by
  unfold Cert.Kernel.defs₀ Cert.KernelIdeal.defs₀
  congr 1
  funext l a
  match l, a with
  | 0, (t, s) => rfl

/-- … and so one table of the pipeline's definitions. -/
theorem defs_eq : @Cert.Kernel.defs F _ Cert.Kernel.Gen.facts = @Cert.KernelIdeal.defs F _ Cert.KernelIdeal.Gen.facts :=
  congrArg (Pipeline.defs (Cert.Kernel.pcfgs (F := F))) bodies_eq

/-- The frame claim of the kernel over bit patterns. -/
theorem frame_Kernel : Cert.quiescent_Kernel (hKernel := Cert.Kernel.Gen.facts) := fun m g _ => by
  have h := kernel_frame (F := Bits) m g
  rw [← defs_eq] at h
  exact h

/-- The frame claim of the kernel over the extended reals. -/
theorem frame_KernelIdeal : Cert.quiescent_KernelIdeal (hKernelIdeal := Cert.KernelIdeal.Gen.facts) :=
  fun m g _ => kernel_frame (F := Ideal) m g

end Cert.Encode

end
-- ==== Proof.OutArray.lean ====
/- The array the grid writes: its blocks put side by side give one encoded value per half of the bins, row, bin and lane. -/
module

public import proofs.«01_k».proof.Proof.Body

@[expose] public section

set_option maxRecDepth 16384

noncomputable section

namespace Cert.Encode

open Cert.KernelIdeal Cert.KernelIdeal.Gen
open Idealize.ShloMosaic Idealize.ShloMosaic.TcCoe Idealize.ShloMosaic.Tactic
open Idealize.ShloMosaic.Pipeline (Dat Cfg Window)
open Idealize.SL Idealize.SL.RA Idealize.SL.Sem

variable {F : FTy → Type} [FloatOps F]
variable (m : (ℓ : Loc nD τ sig) → Buf (Elt F) ℓ)

/-- The encoded value made of a row's entry of `x` and the four tables at a bin and a lane. -/
def cell (c : Dev nD) (g : Fin 2) (r : Fin 15625) (k : Fin 8) (l : Fin 128) : F .f32 :=
  FloatOps.minimumf (FloatOps.maximumf (FloatOps.mulf (FloatOps.subf (V m c main_v0 (ix2 r l)) (V m c main_v22 (ix4 g 0 k l)))
    (V m c main_v20 (ix4 g 0 k l))) (V m c main_v24 (ix4 g 0 k l))) (V m c main_v26 (ix4 g 0 k l))

/-- The whole array of encoded values: `cell` at each index. -/
def out (c : Dev nD) : S2x15625x8x128.Idx → F .f32 := fun i => cell m c (i 0) (i 1) (i 2) (i 3)

/-- Where a point's block of the result stands in the array. -/
theorem out_place (t : Fin cfg0.N) (y : ((cfg0.win 5).xblock (grid0.coords t)).Idx) (r : Fin 15625)
    (hr : r.val = 800 * t.val + (y 1).val) :
    ((win0_5.blk t).view.emb y) = ix4 (win0_5.xinj (grid0.coords t) y 0) r (win0_5.xinj (grid0.coords t) y 2) (win0_5.xinj (grid0.coords t) y 3) := by
  have e : win0_5.index t = ![0, t.val, 0, 0] := (by decide +kernel : ∀ t : Fin grid0.N, win0_5.index t = ![0, t.val, 0, 0]) t
  funext a
  apply Fin.ext
  blk_simp [e]
  fin_cases a
  · simp
  · simp; omega
  · simp
  · simp

/-- A row of the block of `x` that lies inside the array is the array's row; the rows that overhang are never kept. -/
theorem x_stage (c : Dev nD) (t : Fin cfg0.N) (j : S800x128.Idx) (r : Fin 15625) (hr : r.val = 800 * t.val + (j 0).val) :
    xStage m c t j = V m c main_v0 (ix2 r (j 1)) := by
  have e : win0_0.index t = ![t.val, 0] := (by decide +kernel : ∀ t : Fin grid0.N, win0_0.index t = ![t.val, 0]) t
  have hm : win0_0.moved (grid0.coords t) j = true := by
    rw [Window.moved_iff]
    intro a
    have := (by decide +kernel : ∀ t : Fin grid0.N, win0_0.xsize (grid0.coords t) 0 = min 800 (15625 - 800 * t.val)) t
    fin_cases a
    · have h0 := (j 0).isLt
      simp at h0
      have h1 := r.isLt
      show (j 0).val < win0_0.xsize (grid0.coords t) 0
      rw [this]; omega
    · exact (j 1).isLt
  unfold xStage Window.fill
  rw [dif_pos hm]
  blk_ext [iblk, e]

/-- Every point reads the whole table of the reciprocal widths. -/
theorem table_a (c : Dev nD) (t : Fin cfg0.N) (j : S2x1x8x128.Idx) : iblk m c 1 t j = V m c main_v20 j := by
  have e : win0_1.index t = ![0, 0, 0, 0] := (by decide +kernel : ∀ t : Fin grid0.N, win0_1.index t = ![0, 0, 0, 0]) t
  blk_ext [iblk, e]

/-- Every point reads the whole table of the lower edges. -/
theorem table_b (c : Dev nD) (t : Fin cfg0.N) (j : S2x1x8x128.Idx) : iblk m c 2 t j = V m c main_v22 j := by
  have e : win0_2.index t = ![0, 0, 0, 0] := (by decide +kernel : ∀ t : Fin grid0.N, win0_2.index t = ![0, 0, 0, 0]) t
  blk_ext [iblk, e]

/-- Every point reads the whole table of the lower bounds. -/
theorem table_lb (c : Dev nD) (t : Fin cfg0.N) (j : S2x1x8x128.Idx) : iblk m c 3 t j = V m c main_v24 j := by
  have e : win0_3.index t = ![0, 0, 0, 0] := (by decide +kernel : ∀ t : Fin grid0.N, win0_3.index t = ![0, 0, 0, 0]) t
  blk_ext [iblk, e]

/-- Every point reads the whole table of the upper bounds. -/
theorem table_ub (c : Dev nD) (t : Fin cfg0.N) (j : S2x1x8x128.Idx) : iblk m c 4 t j = V m c main_v26 j := by
  have e : win0_4.index t = ![0, 0, 0, 0] := (by decide +kernel : ∀ t : Fin grid0.N, win0_4.index t = ![0, 0, 0, 0]) t
  blk_ext [iblk, e]

/-- After the last point the result array holds `out`: every entry lies in one point's block, whose last rows are cut off
    where the array ends, and the body's value there is `cell`. -/
theorem out_array (c : Dev nD) : (dats m 0 c).arrAt 5 (cfgs 0).N = out m c := by
  refine (dats m 0 c).arrAt_eq_of_covers 5 _ (by decide +kernel) fun t hf y => ?_
  blk_simp
  show k0_pay1 (xStage m c t) (iblk m c 1 t) (iblk m c 2 t) (iblk m c 3 t) (iblk m c 4 t) _ = _
  have hr : 800 * t.val + (y 1).val < 15625 := by
    have h1 := (y 1).isLt
    have := (by decide +kernel : ∀ t : Fin grid0.N, 800 * t.val + win0_5.xsize (grid0.coords t) 1 ≤ 15625) t
    change _ < win0_5.xsize (grid0.coords t) 1 at h1
    omega
  rw [out_place t y ⟨_, hr⟩ rfl]
  have hx := x_stage m c t (ix2 (win0_5.xinj (grid0.coords t) y 1) (win0_5.xinj (grid0.coords t) y 3)) ⟨_, hr⟩ rfl
  revert hx
  generalize win0_5.xinj (grid0.coords t) y = j
  intro hx
  change xStage m c t (ix2 (j 1) (j 3)) = V m c main_v0 (ix2 ⟨800 * t.val + (y 1).val, hr⟩ (j 3)) at hx
  pointwise [k0_pay1]
  rw [hx, table_a, table_b, table_lb, table_ub]
  rfl

end Cert.Encode
end
-- ==== Proof.Bins.lean ====
/- One encoded value: what the kernel makes of an entry of `x` and a bin's two edges, what the reference makes of
   them, and why the two are the same extended real. -/
module

public import Idealize.ShloMosaic.PureOps
public import Idealize.ShloMosaic.Lib.Pointwise
public import Idealize.ShloMosaic.Lib.IdealHost

@[expose] public section

noncomputable section

namespace Cert.Encode

open Idealize.ShloMosaic

section AnyFloats

variable {F : FTy → Type} [FloatOps F]

/-- The upper edge of bin `j`: the next bin's lower edge, and minus one for the last bin. -/
def upper (bins : (⟨1, ![16]⟩ : Shape).Idx → F .f32) (j : Fin 16) : F .f32 :=
  if h : j.val < 15 then bins (ix1 ⟨1 + j.val, by omega⟩) else FloatOps.ofBits .f32 0xBF800000#32

/-- The value below which the kernel clips in bin `j`: zero, and a large negative number, standing for no bound, in the
    first and the last bin. -/
def floorOf (j : Fin 16) : F .f32 :=
  if j.val = 0 ∨ j.val = 15 then FloatOps.ofBits .f32 0xFF61B1E6#32 else FloatOps.ofBits .f32 0#32

/-- The value above which the kernel clips in bin `j`: one, and zero in the last bin. -/
def ceilOf (j : Fin 16) : F .f32 :=
  if j.val = 15 then FloatOps.ofBits .f32 0#32 else FloatOps.ofBits .f32 0x3F800000#32

/-- The kernel's value: the distance from the lower edge times the reciprocal of the width, clipped. -/
def encoded (j : Fin 16) (x lo hi : F .f32) : F .f32 :=
  FloatOps.minimumf
    (FloatOps.maximumf
      (FloatOps.mulf (FloatOps.subf x lo) (FloatOps.hostDivf (FloatOps.ofBits .f32 0x3F800000#32) (FloatOps.subf hi lo)))
      (floorOf j))
    (ceilOf j)

/-- Whether the reference counts `x` as left of bin `j`: below the lower edge, never in the first bin. -/
def isLeft (j : Fin 16) (x lo : F .f32) : BitVec 1 := if 0 < j.val then FloatOps.cmpf .olt x lo else 0#1

/-- Whether the reference counts `x` as right of bin `j`: at or past the upper edge, never in the last bin. -/
def isRight (j : Fin 16) (x hi : F .f32) : BitVec 1 := if j.val < 15 then FloatOps.cmpf .oge x hi else 0#1

/-- The reference's value: zero left of the bin, one right of it, and the share of the width in between. -/
def expected (j : Fin 16) (x lo hi : F .f32) : F .f32 :=
  if isRight j x hi = isLeft j x lo then FloatOps.hostDivf (FloatOps.subf x lo) (FloatOps.subf hi lo)
  else if isLeft j x lo = 1#1 then FloatOps.ofBits .f32 0#32 else FloatOps.ofBits .f32 0x3F800000#32

end AnyFloats

/-! ## The share of the width, as an extended real -/

/-- The pattern of minus one is the real minus one. -/
theorem ofBits_neg_one : Ideal.ofBits .f32 0xBF800000#32 = ((-1 : ℝ) : EReal) := by
  simp [Ideal.ofBits, Ideal.ieee, -EReal.coe_mul, -EReal.coe_neg]; norm_num

/-- The pattern of plus infinity is the top element. -/
theorem ofBits_inf : Ideal.ofBits .f32 0x7F800000#32 = ⊤ := by simp [Ideal.ofBits, Ideal.ieee]

/-- The share of the width between `a` and `b` at `x`. -/
abbrev share (x : EReal) (a b : ℝ) : EReal := (x - (a : EReal)) * ((1 / (b - a) : ℝ) : EReal)

/-- Dividing by the width is taking the share. -/
theorem div_width (x : EReal) {a b : ℝ} (h : a ≠ b) : Ideal.div (x - (a : EReal)) ((b : EReal) - (a : EReal)) = share x a b := by
  rw [← EReal.coe_sub, Ideal.div_coe (sub_ne_zero.mpr h.symm)]

/-- The reciprocal of the width. -/
theorem inv_width {a b : ℝ} (h : a ≠ b) : Ideal.div 1 ((b : EReal) - (a : EReal)) = ((1 / (b - a) : ℝ) : EReal) := by
  rw [← EReal.coe_sub, Ideal.div_coe (sub_ne_zero.mpr h.symm), one_mul]

/-- The share at a real number is a real number. -/
theorem share_coe (r a b : ℝ) : share (r : EReal) a b = (((r - a) * (1 / (b - a)) : ℝ) : EReal) := by
  rw [share, ← EReal.coe_sub, ← EReal.coe_mul]

/-- The share at plus infinity, for a rising bin. -/
theorem share_top {a b : ℝ} (h : a < b) : share ⊤ a b = ⊤ := by
  rw [share, EReal.top_sub_coe, EReal.top_mul_coe_of_pos (by have := sub_pos.mpr h; positivity)]

/-- The share at minus infinity, for a rising bin. -/
theorem share_bot {a b : ℝ} (h : a < b) : share ⊥ a b = ⊥ := by
  rw [share, EReal.bot_sub, EReal.bot_mul_coe_of_pos (by have := sub_pos.mpr h; positivity)]

/-- The share at plus infinity, for a falling bin. -/
theorem share_top_neg {a b : ℝ} (h : b < a) : share ⊤ a b = ⊥ := by
  rw [share, EReal.top_sub_coe, EReal.top_mul_coe_of_neg (one_div_neg.mpr (sub_neg.mpr h))]

/-- The share at minus infinity, for a falling bin. -/
theorem share_bot_neg {a b : ℝ} (h : b < a) : share ⊥ a b = ⊤ := by
  rw [share, EReal.bot_sub, EReal.bot_mul_coe_of_neg (one_div_neg.mpr (sub_neg.mpr h))]

/-- At or above the lower edge of a rising bin the share is not negative. -/
theorem share_nonneg {x : EReal} {a b : ℝ} (h : a < b) (hx : (a : EReal) ≤ x) : 0 ≤ share x a b := by
  have hd := sub_pos.mpr h
  induction x with
  | bot => exact absurd hx (by simp)
  | top => rw [share_top h]; exact le_top
  | coe r =>
    rw [share_coe]
    have := sub_nonneg.mpr (EReal.coe_le_coe_iff.mp hx)
    exact EReal.coe_nonneg.mpr (by positivity)

/-- Below the lower edge of a rising bin the share is not positive. -/
theorem share_nonpos {x : EReal} {a b : ℝ} (h : a < b) (hx : x < (a : EReal)) : share x a b ≤ 0 := by
  have hd := sub_pos.mpr h
  induction x with
  | bot => rw [share_bot h]; exact bot_le
  | top => exact absurd hx (by simp)
  | coe r =>
    rw [share_coe]
    have := (sub_neg.mpr (EReal.coe_lt_coe_iff.mp hx)).le
    exact EReal.coe_nonpos.mpr (mul_nonpos_of_nonpos_of_nonneg this (by positivity))

/-- At or past the upper edge of a rising bin the share is at least one. -/
theorem one_le_share {x : EReal} {a b : ℝ} (h : a < b) (hx : (b : EReal) ≤ x) : 1 ≤ share x a b := by
  have hd := sub_pos.mpr h
  induction x with
  | bot => exact absurd hx (by simp)
  | top => rw [share_top h]; exact le_top
  | coe r =>
    rw [share_coe, ← EReal.coe_one, EReal.coe_le_coe_iff, mul_one_div, le_div_iff₀ hd]
    have := EReal.coe_le_coe_iff.mp hx
    linarith

/-- Below the upper edge of a rising bin the share is at most one. -/
theorem share_le_one {x : EReal} {a b : ℝ} (h : a < b) (hx : x < (b : EReal)) : share x a b ≤ 1 := by
  have hd := sub_pos.mpr h
  induction x with
  | bot => rw [share_bot h]; exact bot_le
  | top => exact absurd hx (by simp)
  | coe r =>
    rw [share_coe, ← EReal.coe_one, EReal.coe_le_coe_iff, mul_one_div, div_le_iff₀ hd]
    have := EReal.coe_lt_coe_iff.mp hx
    linarith

/-- Below the lower edge of a falling bin the share is not negative. -/
theorem share_neg_nonneg {x : EReal} {a b : ℝ} (h : b < a) (hx : x < (a : EReal)) : 0 ≤ share x a b := by
  induction x with
  | bot => rw [share_bot_neg h]; exact le_top
  | top => exact absurd hx (by simp)
  | coe r =>
    rw [share_coe]
    have := (sub_neg.mpr (EReal.coe_lt_coe_iff.mp hx)).le
    exact EReal.coe_nonneg.mpr (mul_nonneg_of_nonpos_of_nonpos this (one_div_neg.mpr (sub_neg.mpr h)).le)

/-- At or above the lower edge of a falling bin the share is not positive. -/
theorem share_neg_nonpos {x : EReal} {a b : ℝ} (h : b < a) (hx : (a : EReal) ≤ x) : share x a b ≤ 0 := by
  induction x with
  | bot => exact absurd hx (by simp)
  | top => rw [share_top_neg h]; exact bot_le
  | coe r =>
    rw [share_coe]
    have := sub_nonneg.mpr (EReal.coe_le_coe_iff.mp hx)
    exact EReal.coe_nonpos.mpr (mul_nonpos_of_nonneg_of_nonpos this (one_div_neg.mpr (sub_neg.mpr h)).le)

/-! ## The two values -/

/-- The kernel's value, through the share. -/
theorem encoded_share (j : Fin 16) (x : Ideal .f32) {a b : ℝ} (h : a ≠ b) :
    encoded (F := Ideal) j x (a : EReal) (b : EReal) = min (max (share x a b) (floorOf (F := Ideal) j)) (ceilOf (F := Ideal) j) := by
  unfold encoded share
  rw [← inv_width h]
  simp

/-- A choice by two one-bit words that say whether two facts hold, as a choice by the facts. -/
theorem pick_words {α : Type} (P Q : Prop) [Decidable P] [Decidable Q] (s u v : α) :
    (if BitVec.ofBool (decide Q) = BitVec.ofBool (decide P) then s else if BitVec.ofBool (decide P) = 1#1 then u else v)
      = if (Q ↔ P) then s else if P then u else v := by
  by_cases hP : P <;> by_cases hQ : Q <;> simp [hP, hQ]

/-- The reference's value, through the share. -/
theorem expected_share (j : Fin 16) (x : Ideal .f32) {a b : ℝ} (h : a ≠ b) :
    expected (F := Ideal) j x (a : EReal) (b : EReal)
      = if (j.val < 15 ∧ (b : EReal) ≤ x ↔ 0 < j.val ∧ x < (a : EReal)) then share x a b
        else if 0 < j.val ∧ x < (a : EReal) then 0 else 1 := by
  have hl : isLeft (F := Ideal) j x (a : EReal) = BitVec.ofBool (decide (0 < j.val ∧ x < (a : EReal))) := by
    unfold isLeft
    by_cases h0 : 0 < j.val
    · rw [if_pos h0]; simp only [h0, true_and]; rfl
    · rw [if_neg h0]; simp [h0]
  have hr : isRight (F := Ideal) j x (b : EReal) = BitVec.ofBool (decide (j.val < 15 ∧ (b : EReal) ≤ x)) := by
    unfold isRight
    by_cases h0 : j.val < 15
    · rw [if_pos h0]; simp only [h0, true_and]; rfl
    · rw [if_neg h0]; simp [h0]
  unfold expected
  rw [hl, hr]
  have hd : FloatOps.hostDivf (F := Ideal) (φ := .f32) (FloatOps.subf x (a : EReal)) (FloatOps.subf (b : EReal) (a : EReal)) = share x a b :=
    div_width x h
  rw [hd]
  rw [pick_words]
  simp

/-- In a rising bin before the last, the kernel's value is the reference's. The first bin has no lower bound: there
    the share must not lie below the number standing for none. -/
theorem encoded_rising (j : Fin 16) (hj : j.val < 15) (x : Ideal .f32) {a b : ℝ} (h : a < b)
    (hf : j.val = 0 → Ideal.ofBits .f32 0xFF61B1E6#32 ≤ share x a b) :
    encoded (F := Ideal) j x (a : EReal) (b : EReal) = expected (F := Ideal) j x (a : EReal) (b : EReal) := by
  rw [encoded_share j x h.ne, expected_share j x h.ne]
  have hc : ceilOf (F := Ideal) j = 1 := by unfold ceilOf; rw [if_neg (by omega)]; simp
  rw [hc]
  have hab : (a : EReal) < (b : EReal) := EReal.coe_lt_coe_iff.mpr h
  by_cases h0 : j.val = 0
  · have hl : floorOf (F := Ideal) j ≤ share x a b := by
      unfold floorOf; rw [if_pos (Or.inl h0)]; exact hf h0
    rw [max_eq_left hl]
    by_cases hx : (b : EReal) ≤ x
    · simp only [h0, hx]; simpa using one_le_share h hx
    · simp only [h0, hx]; simpa using share_le_one h (not_le.mp hx)
  · have hl : floorOf (F := Ideal) j = 0 := by
      unfold floorOf; rw [if_neg (by omega)]; simp
    rw [hl]
    have hp : 0 < j.val := by omega
    by_cases hx : (b : EReal) ≤ x
    · have hn : ¬ x < (a : EReal) := not_lt.mpr (hab.le.trans hx)
      have h1 := one_le_share h hx
      simp only [hj, hp, hx, hn]
      rw [max_eq_left (zero_le_one.trans h1), min_eq_right h1]; simp
    · by_cases hy : x < (a : EReal)
      · simp only [hj, hp, hx, hy]
        rw [max_eq_right (share_nonpos h hy), min_eq_left zero_le_one]; simp
      · simp only [hj, hp, hx, hy]
        rw [max_eq_left (share_nonneg h (not_lt.mp hy)), min_eq_left (share_le_one h (not_le.mp hx))]; simp

/-- In the last bin, which falls to minus one, the kernel's value is the reference's where the share does not lie
    below the number standing for no lower bound. -/
theorem encoded_falling (j : Fin 16) (hj : j.val = 15) (x : Ideal .f32) {a b : ℝ} (h : b < a)
    (hf : Ideal.ofBits .f32 0xFF61B1E6#32 ≤ share x a b) :
    encoded (F := Ideal) j x (a : EReal) (b : EReal) = expected (F := Ideal) j x (a : EReal) (b : EReal) := by
  rw [encoded_share j x h.ne', expected_share j x h.ne']
  have hc : ceilOf (F := Ideal) j = 0 := by unfold ceilOf; rw [if_pos hj]; simp
  have hl : floorOf (F := Ideal) j ≤ share x a b := by
    unfold floorOf; rw [if_pos (Or.inr hj)]; exact hf
  rw [hc, max_eq_left hl]
  by_cases hx : x < (a : EReal)
  · simp only [hj, hx]; simpa using share_neg_nonneg h hx
  · simp only [hj, hx]; simpa using share_neg_nonpos h (not_lt.mp hx)

end Cert.Encode

end
-- ==== Proof.Tables.lean ====
/- What the kernel's operands hold when its grid is entered: `x` laid out in rows of 128, and the four tables the host
   makes of the bins, each read at an index. -/
module

public import proofs.«01_k».proof.Proof.Bins
public import proofs.«01_k».proof.Proof.Gen.KernelIdeal.Frame
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Encode

open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ)

/-- The bin that stands at row `k` of half `g` of a table. -/
abbrev binOf (g : Fin 2) (k : Fin 8) : Fin 16 := ⟨g.val * 8 + k.val, by omega⟩

/-- The reshaped `x` holds the entries of `x` in order, 128 to a row. -/
theorem rows_at (c : Dev nD) (r : Fin 15625) (l : Fin 128) :
    V m c main_v0 (ix2 r l) = m ((c : Thread nD τ).loc main_arg0) (ix2 ⟨r.val * 128 + l.val, by omega⟩ 0) := by
  simp only [V, V0, List.flatten_cons, List.flatten_nil, List.append_nil, List.cons_append, List.nil_append]
  after_reads_at

/-- The table of lower edges. -/
theorem edges_at (c : Dev nD) (g : Fin 2) (k : Fin 8) (l : Fin 128) :
    V m c main_v22 (ix4 g 0 k l) = m ((c : Thread nD τ).loc main_arg1) (ix1 (binOf g k)) := by
  simp only [V, V0, List.flatten_cons, List.flatten_nil, List.append_nil, List.cons_append, List.nil_append]
  after_reads_at

/-- The table of reciprocal widths. -/
theorem inverses_at (c : Dev nD) (g : Fin 2) (k : Fin 8) (l : Fin 128) :
    V m c main_v20 (ix4 g 0 k l)
      = FloatOps.hostDivf (FloatOps.ofBits .f32 0x3F800000#32)
          (FloatOps.subf (upper (m ((c : Thread nD τ).loc main_arg1)) (binOf g k)) (m ((c : Thread nD τ).loc main_arg1) (ix1 (binOf g k)))) := by
  simp only [V, V0, List.flatten_cons, List.flatten_nil, List.append_nil, List.cons_append, List.nil_append]
  after_reads_at
  after_reads_at
  rfl

/-- A choice by a one-bit word that says whether a fact holds, as a choice by the fact. -/
theorem pick_word {α : Type} (P : Prop) [Decidable P] (u v : α) :
    Scalar.select (BitVec.ofBool (decide P)) u v = if P then u else v := by
  unfold Scalar.select
  by_cases hP : P <;> simp [hP]

/-- A choice between two values by the words that test a bin's number. -/
theorem floor_words (j : Fin 16) :
    Scalar.select (IntOp.ori (IntOp.cmpi .eq (BitVec.ofNat 32 j.val) 0#32) (IntOp.cmpi .eq (BitVec.ofNat 32 j.val) 15#32))
      (FloatOps.ofBits (F := F) .f32 0xFF61B1E6#32) (FloatOps.ofBits .f32 0#32) = floorOf j := by
  have h : IntOp.ori (IntOp.cmpi .eq (BitVec.ofNat 32 j.val) 0#32) (IntOp.cmpi .eq (BitVec.ofNat 32 j.val) 15#32)
      = BitVec.ofBool (decide (j.val = 0 ∨ j.val = 15)) := by revert j; decide
  rw [h, pick_word]; rfl

/-- The same for the upper bound. -/
theorem ceil_words (j : Fin 16) :
    Scalar.select (IntOp.cmpi .eq (BitVec.ofNat 32 j.val) 15#32) (FloatOps.ofBits (F := F) .f32 0#32) (FloatOps.ofBits .f32 0x3F800000#32)
      = ceilOf j := by
  have h : IntOp.cmpi .eq (BitVec.ofNat 32 j.val) 15#32 = BitVec.ofBool (decide (j.val = 15)) := by revert j; decide
  rw [h, pick_word]; rfl

/-- The table of lower bounds. -/
theorem floors_at (c : Dev nD) (g : Fin 2) (k : Fin 8) (l : Fin 128) : V m c main_v24 (ix4 g 0 k l) = floorOf (binOf g k) := by
  simp only [V, V0, List.flatten_cons, List.flatten_nil, List.append_nil, List.cons_append, List.nil_append]
  after_reads_at
  simp only [id_eq]
  pointwise
  exact floor_words (binOf g k)

/-- The table of upper bounds. -/
theorem ceils_at (c : Dev nD) (g : Fin 2) (k : Fin 8) (l : Fin 128) : V m c main_v26 (ix4 g 0 k l) = ceilOf (binOf g k) := by
  simp only [V, V0, List.flatten_cons, List.flatten_nil, List.append_nil, List.cons_append, List.nil_append]
  after_reads_at
  simp only [id_eq]
  pointwise
  exact ceil_words (binOf g k)

end Cert.Encode

end
-- ==== Proof.Result.lean ====
/- The kernel's result, read at an index, as the encoded value of an entry of `x` in a bin. -/
module

public import proofs.«01_k».proof.Proof.OutArray
public import proofs.«01_k».proof.Proof.Tables
public import Idealize.ShloMosaic.Lib.StableHlo.ReadAt

@[expose] public section

set_option maxRecDepth 16384

noncomputable section

namespace Cert.Encode

open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ)

/-- The array the grid wrote, when the host's last operations read it. -/
theorem exit_out (c : Dev nD) :
    Pipeline.withArrays spec0 c (V0 m c) (fun w => (dats m 0 c).arrAt w (cfgs 0).N) (Proc.devRef .tc main_v27) = out m c :=
  (Pipeline.withArrays_arr spec0 (by decide) c (V0 m c) (fun w => (dats m 0 c).arrAt w (cfgs 0).N) 5).trans (out_array m c)

/-- Transposed and reshaped, entry `n` of `x` in bin `j` comes from half `j / 8`, row `n / 128`, bin `j % 8` and lane
    `n % 128` of that array. -/
theorem tail_at (c : Dev nD) (n : Fin 2000000) (j : Fin 16) :
    Pipeline.afterTail₀ cfgs (dats m) 0 (V0 m) [hostOps1] c main_v30 (ix3 n 0 j)
      = cell m c ⟨j.val / 8, by omega⟩ ⟨n.val / 128, by omega⟩ ⟨j.val % 8, by omega⟩ ⟨n.val % 128, by omega⟩ := by
  have harr := exit_out m c
  unfold Pipeline.afterTail₀
  simp only [List.flatten_cons, List.flatten_nil, List.append_nil]
  generalize hV : Pipeline.withArrays _ _ _ _ = W
  have hW : W (Proc.devRef .tc main_v27) = out m c := by rw [← hV]; exact harr
  after_reads_simp
  rw [hW]
  pointwise
  rfl

/-- A cell of the array is the encoded value of the entry of `x` at its row and lane, in the bin of its half and row. -/
theorem cell_eq (c : Dev nD) (g : Fin 2) (r : Fin 15625) (k : Fin 8) (l : Fin 128) :
    cell m c g r k l = encoded (binOf g k) (m ((c : Thread nD τ).loc main_arg0) (ix2 ⟨r.val * 128 + l.val, by omega⟩ 0))
      (m ((c : Thread nD τ).loc main_arg1) (ix1 (binOf g k))) (upper (m ((c : Thread nD τ).loc main_arg1)) (binOf g k)) := by
  unfold cell encoded
  rw [rows_at, edges_at, inverses_at, floors_at, ceils_at]

/-- The kernel's result at entry `n` and bin `j`. -/
theorem result_at (c : Dev nD) (n : Fin 2000000) (j : Fin 16) :
    Pipeline.afterTail₀ cfgs (dats m) 0 (V0 m) [hostOps1] c main_v30 (ix3 n 0 j)
      = encoded j (m ((c : Thread nD τ).loc main_arg0) (ix2 n 0)) (m ((c : Thread nD τ).loc main_arg1) (ix1 j))
          (upper (m ((c : Thread nD τ).loc main_arg1)) j) := by
  rw [tail_at, cell_eq]
  have hj : binOf ⟨j.val / 8, by omega⟩ ⟨j.val % 8, by omega⟩ = j := Fin.ext (by show j.val / 8 * 8 + j.val % 8 = j.val; omega)
  have hn : (⟨n.val / 128 * 128 + n.val % 128, by omega⟩ : Fin 2000000) = n := Fin.ext (by show n.val / 128 * 128 + n.val % 128 = n.val; omega)
  rw [hj, hn]

end Cert.Encode

end
-- ==== Proof.RefValue.lean ====
/- The reference's result, read at an index. -/
module

public import proofs.«01_k».proof.Proof.Bins
public import proofs.«01_k».proof.Proof.Gen.ReferenceIdeal.Run
public import Idealize.ShloMosaic.Lib.Pointwise
public import Idealize.ShloMosaic.Lib.Routing.OpsSet

@[expose] public section

set_option maxRecDepth 16384

noncomputable section

namespace Cert.Encode.Reference

open Cert.ReferenceIdeal Cert.ReferenceIdeal.Gen Cert.ReferenceIdeal.Value
open Idealize.ShloMosaic Idealize.ShloMosaic.TcCoe Idealize.ShloMosaic.Tactic
open Idealize.SL.Sem

variable {F : FTy → Type} [FloatOps F]
variable (m : (ℓ : Loc nD τ sig) → Buf (Elt F) ℓ)

/-- The bins' numbers counted from one. -/
abbrev counts : IVec S16 32 := addi (broadcastInDim S16 ![] bcast_S_S16 (constantI S_ 32 1#32)) (iotaInDim S16 32 0)

/-- The positions the lower edges are taken from. -/
abbrev lowerPos : IVec S16x1 32 :=
  broadcastInDim S16x1 ![0] bcast_S16_S16x1_0
    (select (cmpi .slt (subi counts (broadcastInDim S16 ![] bcast_S_S16 (constantI S_ 32 1#32))) (broadcastInDim S16 ![] bcast_S_S16 (constantI S_ 32 0#32)))
      (addi (subi counts (broadcastInDim S16 ![] bcast_S_S16 (constantI S_ 32 1#32))) (broadcastInDim S16 ![] bcast_S_S16 (constantI S_ 32 16#32)))
      (subi counts (broadcastInDim S16 ![] bcast_S_S16 (constantI S_ 32 1#32))))

/-- The positions the upper edges are taken from. -/
abbrev upperPos : IVec S16x1 32 :=
  broadcastInDim S16x1 ![0] bcast_S16_S16x1_0
    (select (cmpi .slt counts (broadcastInDim S16 ![] bcast_S_S16 (constantI S_ 32 0#32)))
      (addi counts (broadcastInDim S16 ![] bcast_S_S16 (constantI S_ 32 17#32))) counts)

/-- The lower edge of bin `j` is taken from position `j`. -/
theorem lowerPos_at (j : Fin 16) : lowerPos (ix2 j 0) = BitVec.ofNat 32 j.val := by
  pointwise
  revert j
  decide

/-- The upper edge of bin `j` is taken from position `j + 1`. -/
theorem upperPos_at (j : Fin 16) : upperPos (ix2 j 0) = BitVec.ofNat 32 (j.val + 1) := by
  pointwise
  revert j
  decide

/-- The lower edge of bin `j`, as the reference takes it. -/
theorem lower_at (b : Vec F S16 .f32) (j : Fin 16) :
    Host.gather gather_S16_S16x1_S16_n_0_n_n_0_1_1 b lowerPos (ix1 j) = b (ix1 j) :=
  Routing.gather_take1 _ rfl rfl rfl rfl b lowerPos j j (lowerPos_at j) (by decide)

/-- The upper edge of bin `j`, as the reference takes it. -/
theorem upper_at (b : Vec F S16 .f32) (j : Fin 16) :
    Host.gather gather_S17_S16x1_S16_n_0_n_n_0_1_1
      (concatenate S17 0 [⟨S16, b⟩, ⟨S1, constant S1 .f32 0xBF800000#32⟩] concatenates_S16_S1_S17_d0) upperPos (ix1 j) = upper b j := by
  refine (Routing.gather_take1 _ rfl rfl rfl rfl _ upperPos j (⟨j.val + 1, by omega⟩ : Fin 17) (upperPos_at j) (by decide)).trans ?_
  unfold upper
  pointwise
  simp only [Nat.add_comm 1 j.val]
  by_cases hj : j.val < 15
  · rw [dif_pos (by omega), dif_pos hj]
  · rw [dif_neg (by omega), dif_neg hj]

/-- Whether `x` is left of bin `j`, by the reference's words. -/
theorem left_words (j : Fin 16) (x lo : F .f32) :
    IntOp.andi (FloatOps.cmpf .olt x lo) (IntOp.cmpi .sgt (IntOp.addi 1#32 (BitVec.ofNat 32 j.val)) 1#32) = isLeft j x lo := by
  have h : IntOp.cmpi .sgt (IntOp.addi 1#32 (BitVec.ofNat 32 j.val)) 1#32 = BitVec.ofBool (decide (0 < j.val)) := by revert j; decide
  rw [h]; unfold isLeft IntOp.andi
  generalize FloatOps.cmpf CmpFPredicate.olt x lo = w
  by_cases hj : 0 < j.val
  · rw [if_pos hj, decide_eq_true hj]; revert w; decide
  · rw [if_neg hj, decide_eq_false hj]; revert w; decide

/-- Whether `x` is right of bin `j`, by the reference's words. -/
theorem right_words (j : Fin 16) (x hi : F .f32) :
    IntOp.andi (FloatOps.cmpf .oge x hi) (IntOp.cmpi .slt (IntOp.addi 1#32 (BitVec.ofNat 32 j.val)) 16#32) = isRight j x hi := by
  have h : IntOp.cmpi .slt (IntOp.addi 1#32 (BitVec.ofNat 32 j.val)) 16#32 = BitVec.ofBool (decide (j.val < 15)) := by revert j; decide
  rw [h]; unfold isRight IntOp.andi
  generalize FloatOps.cmpf CmpFPredicate.oge x hi = w
  by_cases hj : j.val < 15
  · rw [if_pos hj, decide_eq_true hj]; revert w; decide
  · rw [if_neg hj, decide_eq_false hj]; revert w; decide

/-- The reference's last two choices, by its words. -/
theorem choice_words {α : Type} (l r : BitVec 1) (t u v : α) :
    Scalar.select (IntOp.cmpi .eq r l) t (Scalar.select l u v) = if r = l then t else if l = 1#1 then u else v := by
  have h : IntOp.cmpi .eq r l = BitVec.ofBool (decide (r = l)) := by revert l r; decide
  rw [h]; unfold Scalar.select
  by_cases hr : r = l <;> simp [hr]

/-- The reference's result at entry `n` and bin `j`. -/
theorem result_at (c : Dev nD) (n : Fin 2000000) (j : Fin 16) :
    res_main_v52 m c (ix3 n 0 j)
      = expected j (m ((c : Thread nD τ).loc main_arg0) (ix2 n 0)) (m ((c : Thread nD τ).loc main_arg1) (ix1 j))
          (upper (m ((c : Thread nD τ).loc main_arg1)) j) := by
  unfold res_main_v52
  pointwise
  rw [lower_at, upper_at, left_words, right_words, choice_words]
  rfl

end Cert.Encode.Reference

end
-- ==== Proof.Domain.lean ====
/- What the condition on the arguments says: the bins are real numbers, each below the next and the last above minus
   one, and in the first and the last bin no share of the width lies below the number that stands for no bound. -/
module

public import proofs.«01_k».proof.Proof.Bins
public import proofs.«01_k».proof.Proof.Gen.Pre_in_range
public import Idealize.ShloMosaic.Lib.Pointwise

@[expose] public section

set_option maxRecDepth 16384

noncomputable section

namespace Cert.Encode.Domain

open Cert.Pre_in_range Cert.Pre_in_range.Gen
open Idealize.ShloMosaic Idealize.ShloMosaic.TcCoe Idealize.ShloMosaic.Tactic
open Idealize.SL.Sem

/-! ## The condition's columns -/

section AnyFloats

variable {F : FTy → Type} [FloatOps F] (x : Vec F S2000000x1 .f32) (b : Vec F S16 .f32) (n : Fin 2000000)

/-- Columns 0 to 14 compare each bin with the next. -/
theorem rises_at (k : Fin 15) :
    fn x b (ix2 n ⟨k.val, by omega⟩) = FloatOps.cmpf .ogt (b (ix1 ⟨1 + k.val, by omega⟩)) (b (ix1 ⟨k.val, by omega⟩)) := by
  unfold fn
  pointwise [fn_part1]
  rw [dif_pos (by omega)]

/-- Column 15 compares the last bin with minus one. -/
theorem top_at : fn x b (ix2 n 15) = FloatOps.cmpf .ogt (b (ix1 15)) (FloatOps.ofBits .f32 0xBF800000#32) := by
  unfold fn
  pointwise [fn_part1]

/-- Columns 16 to 31 say that the bins are finite. -/
theorem finite_at (k : Fin 16) :
    fn x b (ix2 n ⟨16 + k.val, by omega⟩)
      = FloatOps.cmpf .olt (FloatOps.hostAbsf (b (ix1 k))) (FloatOps.ofBits .f32 0x7F800000#32) := by
  unfold fn
  pointwise [fn_part1]
  rw [dif_pos (by omega), dif_neg (by omega), dif_neg (by omega)]
  congr 4
  exact Fin.ext (by show 16 + k.val - 15 - 1 = k.val; omega)

/-- Column 32 bounds the share of the first bin. -/
theorem first_at :
    fn x b (ix2 n 32)
      = FloatOps.cmpf .oge (FloatOps.hostDivf (FloatOps.subf (x (ix2 n 0)) (b (ix1 0))) (FloatOps.subf (b (ix1 1)) (b (ix1 0))))
          (FloatOps.ofBits .f32 0xFF61B1E6#32) := by
  unfold fn
  pointwise [fn_part1]

/-- Column 33 bounds the share of the last bin. -/
theorem last_at :
    fn x b (ix2 n 33)
      = FloatOps.cmpf .oge (FloatOps.hostDivf (FloatOps.subf (x (ix2 n 0)) (b (ix1 15)))
          (FloatOps.subf (FloatOps.ofBits .f32 0xBF800000#32) (b (ix1 15)))) (FloatOps.ofBits .f32 0xFF61B1E6#32) := by
  unfold fn
  pointwise [fn_part1]

end AnyFloats

/-! ## What they say of extended reals -/

variable {x : Vec Ideal S2000000x1 .f32} {b : Vec Ideal S16 .f32} (h : fn (F := Ideal) x b = fun _ => 1#1)

/-- A comparison's word is one exactly when it holds. -/
theorem of_word {P : Prop} [Decidable P] (e : BitVec.ofBool (decide P) = 1#1) : P := by
  by_contra hP; simp [hP] at e

include h

/-- Each bin is a real number. -/
theorem real_bin (j : Fin 16) : ∃ r : ℝ, b (ix1 j) = (r : EReal) := by
  have e : max (b (ix1 j)) (-(b (ix1 j))) < Ideal.ofBits .f32 0x7F800000#32 :=
    of_word ((finite_at (F := Ideal) x b 0 j).symm.trans (congrFun h _))
  rw [ofBits_inf, max_lt_iff] at e
  generalize b (ix1 j) = v at e ⊢
  induction v using EReal.rec with
  | bot => simp at e
  | top => simp at e
  | coe r => exact ⟨r, rfl⟩

/-- Each bin before the last lies below the next. -/
theorem below_next (j : Fin 16) (hj : j.val < 15) : b (ix1 j) < upper (F := Ideal) b j := by
  have e : b (ix1 j) < b (ix1 ⟨1 + j.val, by omega⟩) :=
    of_word ((rises_at (F := Ideal) x b 0 ⟨j.val, hj⟩).symm.trans (congrFun h _))
  unfold upper
  rw [dif_pos hj]
  exact e

/-- The upper edge of the last bin, minus one, lies below it. -/
theorem below_last (j : Fin 16) (hj : j.val = 15) : upper (F := Ideal) b j < b (ix1 j) := by
  obtain rfl : j = 15 := Fin.ext hj
  have e : Ideal.ofBits .f32 0xBF800000#32 < b (ix1 15) :=
    of_word ((top_at (F := Ideal) x b 0).symm.trans (congrFun h _))
  exact e

/-- Each upper edge is a real number. -/
theorem real_upper (j : Fin 16) : ∃ r : ℝ, upper (F := Ideal) b j = (r : EReal) := by
  unfold upper
  split
  · exact real_bin h _
  · exact ⟨-1, ofBits_neg_one⟩

/-- In the first and the last bin the share of no entry of `x` lies below the number that stands for no bound. -/
theorem share_bound (n : Fin 2000000) (j : Fin 16) (hj : j.val = 0 ∨ j.val = 15) :
    Ideal.ofBits .f32 0xFF61B1E6#32 ≤ Ideal.div (x (ix2 n 0) - b (ix1 j)) (upper (F := Ideal) b j - b (ix1 j)) := by
  rcases hj with hj | hj
  · obtain rfl : j = 0 := Fin.ext hj
    have e : Ideal.ofBits .f32 0xFF61B1E6#32 ≤ Ideal.div (x (ix2 n 0) - b (ix1 0)) (b (ix1 1) - b (ix1 0)) :=
      of_word ((first_at (F := Ideal) x b n).symm.trans (congrFun h _))
    exact e
  · obtain rfl : j = 15 := Fin.ext hj
    have e : Ideal.ofBits .f32 0xFF61B1E6#32
        ≤ Ideal.div (x (ix2 n 0) - b (ix1 15)) (Ideal.ofBits .f32 0xBF800000#32 - b (ix1 15)) :=
      of_word ((last_at (F := Ideal) x b n).symm.trans (congrFun h _))
    exact e

/-- Under the condition the kernel's value is the reference's, at every entry of `x` and in every bin. -/
theorem values_eq (n : Fin 2000000) (j : Fin 16) :
    encoded (F := Ideal) j (x (ix2 n 0)) (b (ix1 j)) (upper (F := Ideal) b j) = expected (F := Ideal) j (x (ix2 n 0)) (b (ix1 j)) (upper (F := Ideal) b j) := by
  have hs := share_bound h n j
  have hu := below_next h j
  have hd := below_last h j
  obtain ⟨lo, hlo⟩ := real_bin h j
  obtain ⟨hi, hhi⟩ := real_upper h j
  rw [hlo, hhi] at hs hu hd ⊢
  by_cases hj : j.val < 15
  · have hlt : lo < hi := EReal.coe_lt_coe_iff.mp (hu hj)
    exact encoded_rising j hj _ hlt fun h0 => by have := hs (Or.inl h0); rwa [div_width _ hlt.ne] at this
  · have h15 : j.val = 15 := by omega
    have hlt : hi < lo := EReal.coe_lt_coe_iff.mp (hd h15)
    exact encoded_falling j h15 _ hlt (by have := hs (Or.inr h15); rwa [div_width _ hlt.ne'] at this)

end Cert.Encode.Domain

end
-- ==== Proof.Equal.lean ====
/- The claims about the reference, and the equality of the two programs' results over the extended reals. -/
module

public import proofs.«01_k».proof.Proof.Frames
public import proofs.«01_k».proof.Proof.Result
public import proofs.«01_k».proof.Proof.RefValue
public import proofs.«01_k».proof.Proof.Domain

@[expose] public section

noncomputable section

namespace Cert.Encode

open Idealize.ShloMosaic Idealize.ShloMosaic.TcCoe Idealize.ShloMosaic.Tactic Idealize.SL.Sem

/-- The frame claim of the reference: its run leaves the arguments alone, and it has no semaphore. -/
theorem frame_ReferenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

section Values
open Cert.KernelIdeal Cert.KernelIdeal.Gen

/-- What a device's result buffer ends holding. -/
def result (m : (ℓ : Loc nD τ sig) → Buf (Elt Ideal) ℓ) (c : Dev nD) : Buf (Elt Ideal) ((c.tc : Thread nD τ).loc main_v30) :=
  Pipeline.afterTail₀ cfgs (dats m) 0 (V0 m) [hostOps1] c main_v30

/-- The kernel's run ends with that array in the result buffer and the arguments as they were. -/
theorem kernel_result (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v30) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1.1 c).2 main_v30 (Pipeline.mem_restRefs_of main_v30 (by decide) (by decide)), h.2.1 c⟩)
    (θ_run_and (run_main m g) (kernel_frame m g))

/-- On arguments that agree and meet the condition, the reference's result is the kernel's. -/
theorem results_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (hx : m' ((c.tc : Thread Cert.ReferenceIdeal.nD Cert.ReferenceIdeal.τ).loc Cert.ReferenceIdeal.main_arg0) = m ((c.tc : Thread nD τ).loc main_arg0))
    (hb : m' ((c.tc : Thread Cert.ReferenceIdeal.nD Cert.ReferenceIdeal.τ).loc Cert.ReferenceIdeal.main_arg1) = m ((c.tc : Thread nD τ).loc main_arg1))
    (h : Cert.Pre_in_range.fn (F := Ideal) (m ((c.tc : Thread nD τ).loc main_arg0)) (m ((c.tc : Thread nD τ).loc main_arg1)) = fun _ => 1#1) :
    Cert.ReferenceIdeal.Value.res_main_v52 m' c = result m c := by
  have e : ∀ (n : Fin 2000000) (j : Fin 16), Cert.ReferenceIdeal.Value.res_main_v52 m' c (ix3 n 0 j) = result m c (ix3 n 0 j) := fun n j => by
    refine (Reference.result_at m' c n j).trans (Eq.trans ?_ (result_at m c n j).symm)
    rw [hx, hb]
    exact (Domain.values_eq h n j).symm
  refine funext fun (i : (⟨3, ![2000000, 1, 16]⟩ : Shape).Idx) => ?_
  idx_vars i
  rw [Subsingleton.elim i1 0]
  exact e i0 i2

end Values

/-- The value claim: on arguments that meet the condition the kernel and the reference end with one result. -/
theorem equal_results : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := fun m g m' g' h ha =>
  ⟨result m, kernel_result m g,
    (θ_run Cert.ReferenceIdeal.defs _ _).mono (fun _ hr c => ⟨(hr c).1.trans (results_eq m m' c (ha c).1 (ha c).2 (h c)), (hr c).2⟩)
      (Cert.ReferenceIdeal.Value.run (F := Ideal) m' g')⟩

end Cert.Encode

end
-- ==== Proof.lean ====
module

public import proofs.«01_k».proof.Defs
public import proofs.«01_k».proof.Proof.Equal

@[expose] public section

noncomputable section

namespace Cert.Proof

open Idealize.ShloMosaic

/-- Everything the certificate claims. -/
theorem claim : Cert.Claim :=
  ⟨Cert.Kernel.Gen.facts, Cert.KernelIdeal.Gen.facts, Cert.ReferenceIdeal.Gen.facts, Cert.Pre_in_range.Gen.facts,
    Cert.Encode.frame_Kernel,
    Cert.Encode.frame_KernelIdeal,
    fun m g _ => Cert.Encode.frame_KernelIdeal m g trivial,
    Cert.Encode.frame_ReferenceIdeal,
    fun m g _ => Cert.Encode.frame_ReferenceIdeal m g trivial,
    trivial,
    Cert.Encode.equal_results⟩

end Cert.Proof

end
